-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50x721x1440 : Shape := ⟨3, ![50, 721, 1440]⟩
abbrev S721x1440 : Shape := ⟨2, ![721, 1440]⟩
abbrev S51x1 : Shape := ⟨2, ![51, 1]⟩
abbrev S50x32x1440 : Shape := ⟨3, ![50, 32, 1440]⟩
abbrev S32x1440 : Shape := ⟨2, ![32, 1440]⟩
abbrev S51x32x1440 : Shape := ⟨3, ![51, 32, 1440]⟩
abbrev S1x32x1440 : Shape := ⟨3, ![1, 32, 1440]⟩
abbrev S51x1440 : Shape := ⟨2, ![51, 1440]⟩
abbrev S51 : Shape := ⟨1, ![51]⟩

abbrev nBuf : Space → Nat
  | .hbm => 4
  | .vmem => 6
  | .smem => 0
  | _ => 0

abbrev bufTy : (tb : Table) → Fin (tcTables nBuf tb) → BufTy
  | .hbm, ⟨0, _⟩ => ⟨S50x721x1440, .f32⟩
  | .hbm, ⟨1, _⟩ => ⟨S721x1440, .f32⟩
  | .hbm, ⟨2, _⟩ => ⟨S51x1, .i32⟩
  | .hbm, ⟨3, _⟩ => ⟨S51, .i32⟩
  | .local _ .vmem, ⟨0, _⟩ => ⟨S50x32x1440, .f32⟩
  | .local _ .vmem, ⟨1, _⟩ => ⟨S50x32x1440, .f32⟩
  | .local _ .vmem, ⟨2, _⟩ => ⟨S32x1440, .f32⟩
  | .local _ .vmem, ⟨3, _⟩ => ⟨S32x1440, .f32⟩
  | .local _ .vmem, ⟨4, _⟩ => ⟨S51x1, .i32⟩
  | .local _ .vmem, ⟨5, _⟩ => ⟨S51x32x1440, .i32⟩
  | _, _ => ⟨S50x721x1440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![23], ![false]⟩

def k0_cond2 (i : grid0.Coords) : BitVec 1 :=
  let arg0 : BitVec 32 := BitVec.ofNat 32 (i 0).val
  let c22_i32 : BitVec 32 := 22#32
  let v29 : BitVec 1 := Scalar.cmpi .eq arg0 c22_i32
  let v30 : BitVec 32 := Scalar.extui v29
  let c0_i32_11 : BitVec 32 := 0#32
  let v31 : BitVec 1 := Scalar.cmpi .ne v30 c0_i32_11
  v31

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S50x32x1440 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1440 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S51x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S50x721x1440 : Shape := ⟨3, ![50, 721, 1440]⟩
abbrev S721x1440 : Shape := ⟨2, ![721, 1440]⟩
abbrev S1x721x1440 : Shape := ⟨3, ![1, 721, 1440]⟩
abbrev S_ : Shape := ⟨0, ![]⟩
abbrev S1038240 : Shape := ⟨1, ![1038240]⟩
abbrev S51 : Shape := ⟨1, ![51]⟩
abbrev S1038240x1 : Shape := ⟨2, ![1038240, 1]⟩

abbrev nBuf : Space → Nat
  | .hbm => 32
  | .vmem => 0
  | .smem => 0
  | _ => 0

abbrev bufTy : (tb : Table) → Fin (tcTables nBuf tb) → BufTy
  | .hbm, ⟨0, _⟩ => ⟨S50x721x1440, .f32⟩
  | .hbm, ⟨1, _⟩ => ⟨S721x1440, .f32⟩
  | .hbm, ⟨2, _⟩ => ⟨S1x721x1440, .f32⟩
  | .hbm, ⟨3, _⟩ => ⟨S50x721x1440, .f32⟩
  | .hbm, ⟨4, _⟩ => ⟨S50x721x1440, .i1⟩
  | .hbm, ⟨5, _⟩ => ⟨S50x721x1440, .i32⟩
  | .hbm, ⟨6, _⟩ => ⟨S_, .i32⟩
  | .hbm, ⟨7, _⟩ => ⟨S721x1440, .i32⟩
  | .hbm, ⟨8, _⟩ => ⟨S_, .i32⟩
  | .hbm, ⟨9, _⟩ => ⟨S721x1440, .i32⟩
  | .hbm, ⟨10, _⟩ => ⟨S721x1440, .i32⟩
  | .hbm, ⟨11, _⟩ => ⟨S_, .i32⟩
  | .hbm, ⟨12, _⟩ => ⟨S721x1440, .i32⟩
  | .hbm, ⟨13, _⟩ => ⟨S721x1440, .i32⟩
  | .hbm, ⟨14, _⟩ => ⟨S1038240, .i32⟩
  | .hbm, ⟨15, _⟩ => ⟨S_, .i32⟩
  | .hbm, ⟨16, _⟩ => ⟨S51, .i32⟩
  | .hbm, ⟨17, _⟩ => ⟨S_, .i32⟩
  | .hbm, ⟨18, _⟩ => ⟨S_, .i32⟩
  | .hbm, ⟨19, _⟩ => ⟨S1038240, .i32⟩
  | .hbm, ⟨20, _⟩ => ⟨S1038240, .i32⟩
  | .hbm, ⟨21, _⟩ => ⟨S_, .i32⟩
  | .hbm, ⟨22, _⟩ => ⟨S1038240, .i32⟩
  | .hbm, ⟨23, _⟩ => ⟨S1038240, .i1⟩
  | .hbm, ⟨24, _⟩ => ⟨S_, .i32⟩
  | .hbm, ⟨25, _⟩ => ⟨S1038240, .i32⟩
  | .hbm, ⟨26, _⟩ => ⟨S1038240, .i32⟩
  | .hbm, ⟨27, _⟩ => ⟨S1038240, .i32⟩
  | .hbm, ⟨28, _⟩ => ⟨S1038240x1, .i32⟩
  | .hbm, ⟨29, _⟩ => ⟨S_, .i32⟩
  | .hbm, ⟨30, _⟩ => ⟨S1038240, .i32⟩
  | .hbm, ⟨31, _⟩ => ⟨S51, .i32⟩
  | _, _ => ⟨S50x721x1440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_c_3 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_c_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_6 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Proof.Ideal.Body.lean ====
/- The body of the rank histogram kernel on whole buffers, in its three cases: at the first grid point it clears the
   accumulator and adds the block's one-hot counts, at a middle point it adds them, at the last point it also writes the
   totals out. Each case is a triple that names what the accumulator and the result's buffer hold afterwards. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.WritesUnit
public import Idealize.ShloMosaic.Lib.WordCmp

@[expose] public section

set_option maxRecDepth 16384

noncomputable section

namespace Cert.KernelIdeal.Rank

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition under which the body clears the accumulator: the grid coordinate is zero. -/
abbrev atFirst (i : grid0.Coords) : Prop :=
  (Scalar.cmpi .ne (Scalar.extui (Scalar.cmpi .eq (BitVec.ofNat 32 (i 0).val) 0#32)) 0#32) = 1#1

/-- The condition under which the body writes the totals out: the grid coordinate is the last one. -/
abbrev atLast (i : grid0.Coords) : Prop := k0_cond2 i = 1#1

/-- The clearing branch is taken at point zero and nowhere else. -/
theorem atFirst_iff (t : Fin cfg0.N) : atFirst (grid0.coords t) ↔ t.val = 0 := by
  have ht : t.val < 23 := Nat.lt_of_lt_of_eq t.isLt N_0
  have e : (grid0.coords t 0).val = t.val := by
    rw [(Pipeline.Grid.coords_val t 0 (by decide) rfl : (grid0.coords t 0).val = t.val / 1 % 23)]; omega
  simp only [atFirst, e]
  word_cmp

/-- The writing branch is taken at point twenty-two and nowhere else. -/
theorem atLast_iff (t : Fin cfg0.N) : atLast (grid0.coords t) ↔ t.val = 22 := by
  have ht : t.val < 23 := Nat.lt_of_lt_of_eq t.isLt N_0
  have e : (grid0.coords t 0).val = t.val := by
    rw [(Pipeline.Grid.coords_val t 0 (by decide) rfl : (grid0.coords t 0).val = t.val / 1 % 23)]; omega
  simp only [atLast, k0_cond2, e]
  word_cmp

/-- The offsets of a store over a whole rank-2 buffer are all zero. -/
theorem zero2 : (![0, 0] : Fin 2 → Nat) = fun _ => 0 := by funext a; fin_cases a <;> rfl
/-- The offsets of a store over a whole rank-3 buffer are all zero. -/
theorem zero3 : (![0, 0, 0] : Fin 3 → Nat) = fun _ => 0 := by funext a; fin_cases a <;> rfl

/-- A store over a whole buffer, the latest of any list of stores, is what the buffer then reads. -/
theorem read_full_store {Val : EltTy → Type} {sp : Space} {s : Shape} {e : EltTy} (v : View sig .tc sp s e) (f : v.ty.Contents Val)
    {off : Fin s.rank → Nat} (hz : off = fun _ => 0) (inb : ∀ a, off a + s.size a ≤ s.size a) (w : s.Idx → Val e)
    (L : List (View.Piece Val s e)) :
    v.read Val (v.writes Val f ((⟨Rect.unit off s.size inb, w⟩ : View.Piece Val s e) :: L)) = w := by
  funext y
  exact View.read_writes_cons_unit_of_mem v f inb w L y y hz (fun a => (Nat.zero_add _).symm)

set_option maxHeartbeats 2000000 in
/-- A middle point: the accumulator gains the block's one-hot counts; the result's buffer is untouched. -/
theorem body_middle (c : Dev nD) (i : grid0.Coords)
    (a1 : Memref sig .tc .vmem S50x32x1440 .f32) (h1 : a1.IsWhole)
    (a2 : Memref sig .tc .vmem S32x1440 .f32) (h2 : a2.IsWhole)
    (a3 : Memref sig .tc .vmem S51x1 .i32) (h3 : a3.IsWhole)
    (a4 : Memref sig .tc .vmem S51x32x1440 .i32) (h4 : a4.IsWhole)
    (hf : ¬atFirst i) (hl : ¬atLast i)
    (P : Vec F S50x32x1440 .f32) (T : Vec F S32x1440 .f32) (O : Vec F S51x1 .i32) (A : Vec F S51x32x1440 .i32)
    (E : Set ℕ) (K : PUnit → sProp 𝕄) :
    iprop(owns (c : Thread nD τ) a1 fullShare P ∗ owns (c : Thread nD τ) a2 fullShare T
        ∗ owns (c : Thread nD τ) a3 fullShare O ∗ owns (c : Thread nD τ) a4 fullShare A
        ∗ (iprop(owns (c : Thread nD τ) a1 fullShare P ∗ owns (c : Thread nD τ) a2 fullShare T
            ∗ owns (c : Thread nD τ) a3 fullShare O
            ∗ owns (c : Thread nD τ) a4 fullShare (k0_pay2 i T P A)) -∗ K ⟨⟩))
      ⊢ wp frame (wpE (defs₀ (F := F)) Variants.none c none) E (cc0__hist_body i a1 h1 a2 h2 a3 h3 a4 h4) K := by
  simp only [cc0__hist_body_eq_skeleton]; unfold cc0__hist_body_skel
  unfold owns
  iintro ⟨⟨%f1, %e1, H1⟩, ⟨%f2, %e2, H2⟩, ⟨%f3, %e3, H3⟩, ⟨%f4, %e4, H4⟩, Hk⟩
  sl_exec (disch := first | sl_exact hf | sl_exact hl)
  sl_step
  iapply Hk
  isplitl [H1]
  · iexists f1; isplitr; · ipureintro; exact e1
    iexact H1
  isplitl [H2]
  · iexists f2; isplitr; · ipureintro; exact e2
    iexact H2
  isplitl [H3]
  · iexists _; isplitr
    swap; · iexact H3
    ipureintro
    exact e3
  iexists _; isplitr
  swap; · iexact H4
  ipureintro
  rw [read_full_store _ _ zero3, View.readAt_full, View.readAt_full, View.readAt_full, e1, e2, e4]

set_option maxHeartbeats 2000000 in
/-- The first point: whatever the accumulator held, it holds the block's one-hot counts over zeros. -/
theorem body_first (c : Dev nD) (i : grid0.Coords)
    (a1 : Memref sig .tc .vmem S50x32x1440 .f32) (h1 : a1.IsWhole)
    (a2 : Memref sig .tc .vmem S32x1440 .f32) (h2 : a2.IsWhole)
    (a3 : Memref sig .tc .vmem S51x1 .i32) (h3 : a3.IsWhole)
    (a4 : Memref sig .tc .vmem S51x32x1440 .i32) (h4 : a4.IsWhole)
    (hf : atFirst i) (hl : ¬atLast i)
    (P : Vec F S50x32x1440 .f32) (T : Vec F S32x1440 .f32) (O : Vec F S51x1 .i32) (A : Vec F S51x32x1440 .i32)
    (E : Set ℕ) (K : PUnit → sProp 𝕄) :
    iprop(owns (c : Thread nD τ) a1 fullShare P ∗ owns (c : Thread nD τ) a2 fullShare T
        ∗ owns (c : Thread nD τ) a3 fullShare O ∗ owns (c : Thread nD τ) a4 fullShare A
        ∗ (iprop(owns (c : Thread nD τ) a1 fullShare P ∗ owns (c : Thread nD τ) a2 fullShare T
            ∗ owns (c : Thread nD τ) a3 fullShare O
            ∗ owns (c : Thread nD τ) a4 fullShare (k0_pay2 i T P k0_pay1)) -∗ K ⟨⟩))
      ⊢ wp frame (wpE (defs₀ (F := F)) Variants.none c none) E (cc0__hist_body i a1 h1 a2 h2 a3 h3 a4 h4) K := by
  simp only [cc0__hist_body_eq_skeleton]; unfold cc0__hist_body_skel
  unfold owns
  iintro ⟨⟨%f1, %e1, H1⟩, ⟨%f2, %e2, H2⟩, ⟨%f3, %e3, H3⟩, ⟨%f4, %e4, H4⟩, Hk⟩
  sl_exec (disch := first | sl_exact hf | sl_exact hl)
  sl_step
  iapply Hk
  isplitl [H1]
  · iexists f1; isplitr; · ipureintro; exact e1
    iexact H1
  isplitl [H2]
  · iexists f2; isplitr; · ipureintro; exact e2
    iexact H2
  isplitl [H3]
  · iexists _; isplitr
    swap; · iexact H3
    ipureintro
    exact e3
  iexists _; isplitr
  swap; · iexact H4
  ipureintro
  sl_unfold_run_names
  rw [read_full_store _ _ zero3, View.readCov_unit_zero _ zero3, View.readAt_full, View.readAt_full, e1, e2]

set_option maxHeartbeats 2000000 in
/-- The last point: the accumulator gains the block's one-hot counts and the result's buffer gets its totals. -/
theorem body_last (c : Dev nD) (i : grid0.Coords)
    (a1 : Memref sig .tc .vmem S50x32x1440 .f32) (h1 : a1.IsWhole)
    (a2 : Memref sig .tc .vmem S32x1440 .f32) (h2 : a2.IsWhole)
    (a3 : Memref sig .tc .vmem S51x1 .i32) (h3 : a3.IsWhole)
    (a4 : Memref sig .tc .vmem S51x32x1440 .i32) (h4 : a4.IsWhole)
    (hf : ¬atFirst i) (hl : atLast i)
    (P : Vec F S50x32x1440 .f32) (T : Vec F S32x1440 .f32) (O : Vec F S51x1 .i32) (A : Vec F S51x32x1440 .i32)
    (E : Set ℕ) (K : PUnit → sProp 𝕄) :
    iprop(owns (c : Thread nD τ) a1 fullShare P ∗ owns (c : Thread nD τ) a2 fullShare T
        ∗ owns (c : Thread nD τ) a3 fullShare O ∗ owns (c : Thread nD τ) a4 fullShare A
        ∗ (iprop(owns (c : Thread nD τ) a1 fullShare P ∗ owns (c : Thread nD τ) a2 fullShare T
            ∗ owns (c : Thread nD τ) a3 fullShare (k0_pay3 (F := F) (k0_pay2 i T P A))
            ∗ owns (c : Thread nD τ) a4 fullShare (k0_pay2 i T P A)) -∗ K ⟨⟩))
      ⊢ wp frame (wpE (defs₀ (F := F)) Variants.none c none) E (cc0__hist_body i a1 h1 a2 h2 a3 h3 a4 h4) K := by
  simp only [cc0__hist_body_eq_skeleton]; unfold cc0__hist_body_skel
  unfold owns
  iintro ⟨⟨%f1, %e1, H1⟩, ⟨%f2, %e2, H2⟩, ⟨%f3, %e3, H3⟩, ⟨%f4, %e4, H4⟩, Hk⟩
  sl_exec (disch := first | sl_exact hf | sl_exact hl)
  sl_step
  iapply Hk
  isplitl [H1]
  · iexists f1; isplitr; · ipureintro; exact e1
    iexact H1
  isplitl [H2]
  · iexists f2; isplitr; · ipureintro; exact e2
    iexact H2
  isplitl [H3]
  · iexists _; isplitr
    swap; · iexact H3
    ipureintro
    sl_unfold_run_names
    rw [read_full_store _ _ zero2, View.readCov_unit_zero _ zero3, View.readAt_full, View.readAt_full, View.readAt_full, e1, e2, e4]
  iexists _; isplitr
  swap; · iexact H4
  ipureintro
  sl_unfold_run_names
  rw [read_full_store _ _ zero3, View.readAt_full, View.readAt_full, View.readAt_full, e1, e2, e4]

end Cert.KernelIdeal.Rank

end
-- ==== Proof.Histogram.lean ====
/- The rank histogram in plain terms: the rank of an observation among the members, and how many places of the grid have
   a given rank. The kernel and the reference are both read as this. -/
module

public import Idealize.ShloMosaic.Lib.Pointwise
public import Idealize.ShloMosaic.Lib.IndicatorCount
public import Idealize.ShloMosaic.Lib.WordSum
public import Idealize.ShloMosaic.Lib.WordCmp

@[expose] public section

noncomputable section

namespace Cert.Rank

open Idealize.ShloMosaic

variable {F : FTy → Type} [FloatOps F]

/-- The rank of the target `t` among the members `p`: how many of them are below it, as a word. -/
def rank (p : Fin 50 → F .f32) (t : F .f32) : BitVec 32 :=
  Finset.univ.fold IntOp.addi (0#32) fun x => (FloatOps.cmpf .olt (p x) t).setWidth 32

/-- One where the word `b` is the bin `k`, zero elsewhere. -/
def hit (b : BitVec 32) (k : ℕ) : BitVec 32 := if b = BitVec.ofNat 32 k then 1 else 0

/-- How many of the places of the grid have rank `k`, as a word. -/
def histogram (P : (⟨3, ![50, 721, 1440]⟩ : Shape).Idx → F .f32) (T : (⟨2, ![721, 1440]⟩ : Shape).Idx → F .f32) (k : ℕ) :
    BitVec 32 :=
  ∑ h : Fin 721, ∑ w : Fin 1440, hit (rank (fun x => P (ix3 x h w)) (T (ix2 h w))) k

/-- A rank is at most the number of members. -/
theorem rank_le (p : Fin 50 → F .f32) (t : F .f32) : (rank p t).toNat ≤ 50 := by
  unfold rank
  rw [IndicatorCount.fold_addi_setWidth_eq_card, BitVec.toNat_ofNat]
  refine le_trans (Nat.mod_le _ _) (le_trans (Finset.card_le_univ _) ?_)
  rw [Fintype.card_fin]

end Cert.Rank

end
-- ==== Proof.Ideal.Payload.lean ====
/- The kernel's three stored values read at an index: the zeros the accumulator is cleared to; the accumulator plus one
   where a valid row's rank is the bin; the totals over rows and columns. A consequence is that the rows past the end
   of the arrays do not matter, whatever their buffers hold. -/
module

public import proofs.«01_k».proof.Proof.Gen.KernelIdeal.Skeleton
public import proofs.«01_k».proof.Proof.Histogram
public import Idealize.ShloMosaic.Lib.Pointwise
public import Idealize.ShloMosaic.Lib.IndicatorCount
public import Idealize.ShloMosaic.Lib.WordSum
public import Idealize.ShloMosaic.Lib.WordCmp

@[expose] public section

set_option maxRecDepth 16384

noncomputable section

namespace Cert.KernelIdeal.Rank

open Cert.KernelIdeal.Gen Cert.Rank
open Idealize.ShloMosaic

variable {F : FTy → Type} [FloatOps F]

/-- The cleared accumulator is zero everywhere. -/
theorem pay1_at (k : Fin 51) (r : Fin 32) (l : Fin 1440) : k0_pay1 (ix3 k r l) = 0#32 := by
  pointwise [k0_pay1]

/-- The row test of the kernel: row `r` of block `b` is a row of the arrays. -/
theorem row_test (b r : ℕ) (hb : b < 23) (hr : r < 32) :
    IntOp.cmpi CmpIPredicate.slt (IntOp.addi (Scalar.muli (BitVec.ofNat 32 b) 32#32) (BitVec.ofNat 32 r)) 721#32
      = if 32 * b + r < 721 then 1#1 else 0#1 := by
  exact (by decide +kernel : ∀ (b : Fin 23) (r : Fin 32),
    IntOp.cmpi CmpIPredicate.slt (IntOp.addi (Scalar.muli (BitVec.ofNat 32 b.val) 32#32) (BitVec.ofNat 32 r.val)) 721#32
      = if 32 * b.val + r.val < 721 then 1#1 else 0#1) ⟨b, hb⟩ ⟨r, hr⟩

/-- The accumulator after a block: in bin `k` at row `r` and column `l` it gains one exactly when the row is a row of
    the arrays and the rank there is `k`. -/
theorem pay2_at (i : grid0.Coords) (T : Vec F S32x1440 .f32) (P : Vec F S50x32x1440 .f32) (A : Vec F S51x32x1440 .i32)
    (k : Fin 51) (r : Fin 32) (l : Fin 1440) :
    k0_pay2 i T P A (ix3 k r l) = A (ix3 k r l)
      + (if 32 * (i 0).val + r.val < 721 then hit (rank (fun x => P (ix3 x r l)) (T (ix2 r l))) k.val else 0) := by
  pointwise [k0_pay2]
  rw [row_test _ _ (i 0).isLt r.isLt]
  change IntOp.addi (A (ix3 k r l)) (BitVec.setWidth 32 (IntOp.andi (IntOp.cmpi .eq (rank (fun x => P (ix3 x r l)) (T (ix2 r l))) (BitVec.ofNat 32 k.val)) _)) = _
  generalize rank (fun x => P (ix3 x r l)) (T (ix2 r l)) = b
  unfold hit IntOp.cmpi IntOp.andi IntOp.addi
  by_cases hv : 32 * (i 0).val + r.val < 721 <;> by_cases hb : b = BitVec.ofNat 32 k.val <;> simp [hv, hb, beq_eq_false_iff_ne.2]

/-- The totals: bin `k` holds the sum of its accumulator over the columns and rows of the block. -/
theorem pay3_at (A : Vec F S51x32x1440 .i32) (k : Fin 51) (l : Fin 1) :
    k0_pay3 (F := F) A (ix2 k l) = ∑ x : Fin 1440, ∑ r : Fin 32, (A (ix3 k r x) : BitVec 32) := by
  pointwise [k0_pay3]
  rfl

/-- Blocks that agree on the rows of the arrays update the accumulator alike. -/
theorem pay2_congr (i : grid0.Coords) (T T' : Vec F S32x1440 .f32) (P P' : Vec F S50x32x1440 .f32) (A : Vec F S51x32x1440 .i32)
    (hT : ∀ (r : Fin 32) (l : Fin 1440), 32 * (i 0).val + r.val < 721 → T (ix2 r l) = T' (ix2 r l))
    (hP : ∀ (x : Fin 50) (r : Fin 32) (l : Fin 1440), 32 * (i 0).val + r.val < 721 → P (ix3 x r l) = P' (ix3 x r l)) :
    k0_pay2 i T P A = k0_pay2 i T' P' A := by
  funext j
  obtain ⟨k, r, l, rfl⟩ : ∃ (k : Fin 51) (r : Fin 32) (l : Fin 1440), j = ix3 k r l :=
    ⟨j 0, j 1, j 2, by funext a; fin_cases a <;> rfl⟩
  rw [pay2_at, pay2_at]
  by_cases h : 32 * (i 0).val + r.val < 721
  · rw [if_pos h, if_pos h, hT r l h]
    simp only [hP _ r l h]
  · rw [if_neg h, if_neg h]

end Cert.KernelIdeal.Rank

end
-- ==== Proof.Ideal.Data.lean ====
/- The run of the rank histogram kernel: what its accumulator holds after each grid point, the pipeline's proof data
   built on that, the body obligation at every point, and the launch. The blocks the two inputs are staged in overhang
   the arrays at the last point; whatever lies past the end is masked off by the row test, so the accumulator is named
   without it. -/
module

public import proofs.«01_k».proof.Proof.Ideal.Body
public import proofs.«01_k».proof.Proof.Ideal.Payload
public import proofs.«01_k».proof.Proof.Gen.KernelIdeal.Launch
public import Idealize.ShloMosaic.Lib.Pipeline.FrameSuffix
public import Idealize.ShloMosaic.Lib.Claim

@[expose] public section

set_option maxRecDepth 16384

noncomputable section

namespace Cert.KernelIdeal.Rank

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staged blocks -/

/-- The block of the members at point `t`, filled out with zeros past the end of the array. -/
def members (c : Dev nD) (t : Fin cfg0.N) : Vec F S50x32x1440 .f32 :=
  win0_0.fill (grid0.coords t) (fun _ => Scalar.ofBits .f32 0#32) (iblk m c 0 t)

/-- The block of the observations at point `t`, filled out with zeros past the end of the array. -/
def observed (c : Dev nD) (t : Fin cfg0.N) : Vec F S32x1440 .f32 :=
  win0_1.fill (grid0.coords t) (fun _ => Scalar.ofBits .f32 0#32) (iblk m c 1 t)

/-- The one grid coordinate of point `t` is `t`. -/
theorem coord_val (t : Fin cfg0.N) : (grid0.coords t 0).val = t.val := by
  have ht : t.val < 23 := Nat.lt_of_lt_of_eq t.isLt N_0
  rw [(Pipeline.Grid.coords_val t 0 (by decide) rfl : (grid0.coords t 0).val = t.val / 1 % 23)]; omega

/-- How much of the members' block is fetched: all members and columns, and every row inside the array. -/
theorem members_extent : ∀ t : Fin cfg0.N, win0_0.xsize (grid0.coords t) 0 = 50
    ∧ (∀ r : Fin 32, 32 * t.val + r.val < 721 → r.val < win0_0.xsize (grid0.coords t) 1)
    ∧ win0_0.xsize (grid0.coords t) 2 = 1440 := by decide +kernel

/-- How much of the observations' block is fetched: every row inside the array, and all columns. -/
theorem observed_extent : ∀ t : Fin cfg0.N,
    (∀ r : Fin 32, 32 * t.val + r.val < 721 → r.val < win0_1.xsize (grid0.coords t) 0)
    ∧ win0_1.xsize (grid0.coords t) 1 = 1440 := by decide +kernel

/-- A member on a row inside the array is fetched. -/
theorem members_moved (t : Fin cfg0.N) (x : Fin 50) (r : Fin 32) (l : Fin 1440) (h : 32 * t.val + r.val < 721) :
    win0_0.moved (grid0.coords t) (ix3 x r l) = true := by
  obtain ⟨h0, h1, h2⟩ := members_extent t
  refine (Pipeline.Window.moved_iff _ _ _).mpr fun a => ?_
  match a with
  | ⟨0, _⟩ => exact lt_of_lt_of_eq x.isLt h0.symm
  | ⟨1, _⟩ => exact h1 r h
  | ⟨2, _⟩ => exact lt_of_lt_of_eq l.isLt h2.symm

/-- An observation on a row inside the array is fetched. -/
theorem observed_moved (t : Fin cfg0.N) (r : Fin 32) (l : Fin 1440) (h : 32 * t.val + r.val < 721) :
    win0_1.moved (grid0.coords t) (ix2 r l) = true := by
  obtain ⟨h0, h1⟩ := observed_extent t
  refine (Pipeline.Window.moved_iff _ _ _).mpr fun a => ?_
  match a with
  | ⟨0, _⟩ => exact h0 r h
  | ⟨1, _⟩ => exact lt_of_lt_of_eq l.isLt h1.symm

/-- Adding the counts of a staged block does not depend on what its buffers hold past the end of the arrays. -/
theorem counts_fill (c : Dev nD) (t : Fin cfg0.N) (d0 : Vec F S50x32x1440 .f32) (d1 : Vec F S32x1440 .f32)
    (A : Vec F S51x32x1440 .i32) :
    k0_pay2 (grid0.coords t) (win0_1.fill (grid0.coords t) d1 (iblk m c 1 t))
        (win0_0.fill (grid0.coords t) d0 (iblk m c 0 t)) A
      = k0_pay2 (grid0.coords t) (observed m c t) (members m c t) A := by
  refine pay2_congr _ _ _ _ _ _ ?_ ?_
  · intro r l h
    rw [coord_val] at h
    have hm := observed_moved t r l h
    unfold observed Pipeline.Window.fill
    rw [dif_pos hm, dif_pos hm]
  · intro x r l h
    rw [coord_val] at h
    have hm := members_moved t x r l h
    unfold members Pipeline.Window.fill
    rw [dif_pos hm, dif_pos hm]

/-! ## The accumulator -/

/-- What the accumulator holds after the body at point `n`. -/
def acc (c : Dev nD) : (n : ℕ) → n < cfg0.N → Vec F S51x32x1440 .i32
  | 0, h => k0_pay2 (grid0.coords ⟨0, h⟩) (observed m c ⟨0, h⟩) (members m c ⟨0, h⟩) k0_pay1
  | n + 1, h => k0_pay2 (grid0.coords ⟨n + 1, h⟩) (observed m c ⟨n + 1, h⟩) (members m c ⟨n + 1, h⟩)
      (acc c n (Nat.lt_of_succ_lt h))

/-- After the first point. -/
theorem acc_first (c : Dev nD) (t : Fin cfg0.N) (h : t.val = 0) :
    acc m c t.val t.isLt = k0_pay2 (grid0.coords t) (observed m c t) (members m c t) k0_pay1 := by
  obtain ⟨n, hn⟩ := t; dsimp only at h; subst h; rfl

/-- After a later point. -/
theorem acc_later (c : Dev nD) (t : Fin cfg0.N) (h : t.val ≠ 0) :
    acc m c t.val t.isLt = k0_pay2 (grid0.coords t) (observed m c t) (members m c t)
      (acc m c (t.val - 1) (Nat.lt_of_le_of_lt (Nat.sub_le _ _) t.isLt)) := by
  obtain ⟨n, hn⟩ := t
  cases n with
  | zero => exact absurd rfl h
  | succ n => rfl

/-- The accumulator's buffer. -/
abbrev accM : Memref sig .tc .vmem S51x32x1440 .i32 := Memref.whole cc0_scratch0

/-- Before the first point the accumulator holds anything; before a later one what the point before left. -/
def invariant (c : Dev nD) : (n : ℕ) → n ≤ cfg0.N → sProp 𝕄
  | 0, _ => Pipeline.ΦA spec0 c
  | n + 1, h => iprop(owns (c : Thread nD τ) accM fullShare (acc m c n h) ∗ ∃ r, prngReg c r)

/-- Before the first point the invariant holds the scratch with unknown contents. -/
theorem invariant_first (c : Dev nD) (n : ℕ) (h : n ≤ cfg0.N) (hz : n = 0) :
    invariant m c n h = Pipeline.ΦA spec0 c := by subst hz; rfl

/-- Before a later point the invariant holds the accumulator as the point before it left it. -/
theorem invariant_later (c : Dev nD) (n : ℕ) (h : n ≤ cfg0.N) (hz : n ≠ 0) :
    invariant m c n h
      = iprop(owns (c : Thread nD τ) accM fullShare (acc m c (n - 1) (by omega)) ∗ ∃ r, prngReg c r) := by
  cases n with
  | zero => exact absurd rfl hz
  | succ n => rfl

/-- The scratch held at anything, the accumulator's buffer named. -/
theorem anything_eq (c : Dev nD) :
    (Pipeline.ΦA spec0 c : sProp 𝕄)
      = iprop((∃ d, owns (c : Thread nD τ) accM fullShare d) ∗ ∃ r, prngReg c r) := by
  unfold Pipeline.ΦA; rw [scopedRest0_eq]; simp only [accM, owns_whole]; rfl

/-! ## The proof data -/

/-- The proof data: the arrays as launched; the inputs' buffers at their blocks; the result's at the totals of the
    accumulator; the accumulator's contents as the invariant. -/
def dats (_ : Fin 1) (c : Dev nD) : Dat τ (Elt F) Unit ℕ (UR sig nD τ) ℕ cfg0 c where
  A w := V m c (Pipeline.arrRef spec0 w)
  after w t := match w with
    | ⟨0, _⟩ => members m c t
    | ⟨1, _⟩ => observed m c t
    | ⟨2, _⟩ => k0_pay3 (F := F) (acc m c t.val t.isLt)
  Φ t := invariant m c t.val (Nat.le_of_lt_succ t.isLt)
  q _ := fullShare
  owed _ := 0

/-- The proof data start from the arrays as launched. -/
theorem arrays_eq (c : Dev nD) (w : Fin cfg0.W) : (dats m 0 c).A w = V m c (Pipeline.arrRef spec0 w) := by
  dsimp only [dats]

/-- What the last point stores into the result block: the totals of the accumulator. -/
theorem totals_after (c : Dev nD) (t : Fin cfg0.N) :
    (dats m 0 c).after 2 t = k0_pay3 (F := F) (acc m c t.val t.isLt) := by dsimp only [dats]

/-- The members' buffer as the body finds it: just fetched. -/
theorem members_before (c : Dev nD) (t : Fin cfg0.N) (d) :
    (dats m 0 c).before 0 t d = win0_0.fill (grid0.coords t) d (iblk m c 0 t) := by
  unfold Dat.before; rw [if_pos (fetch0_0 t)]; rfl

/-- The observations' buffer as the body finds it: just fetched. -/
theorem observed_before (c : Dev nD) (t : Fin cfg0.N) (d) :
    (dats m 0 c).before 1 t d = win0_1.fill (grid0.coords t) d (iblk m c 1 t) := by
  unfold Dat.before; rw [if_pos (fetch0_1 t)]; rfl

/-- The result's window is left alone before the last point: neither stored into nor written back. -/
theorem result_idle : ∀ t : Fin cfg0.N, ¬atLast (grid0.coords t) →
    idle0 2 (grid0.coords t) = true ∧ (win0 2).flush t = false := by decide +kernel

/-- At the last point it is stored into. -/
theorem result_live : ∀ t : Fin cfg0.N, atLast (grid0.coords t) → idle0 2 (grid0.coords t) = false := by
  decide +kernel

/-- The body table's row at point `t` is the kernel body on the point's buffers. -/
theorem body_row (t : Fin cfg0.N) :
    defs₀ (F := F) .tc cfg0.body (cfg0.bodyArgs t (cfg0.slots t)) = bodyAt0 t := by
  unfold defs₀; rw [Defs.onTc_tc]

/-- The invariant at the start of a point. -/
theorem invariant_start (c : Dev nD) (t : Fin cfg0.N) :
    (dats m 0 c).Φ t.castSucc = invariant m c t.val (Nat.le_of_lt t.isLt) := by
  dsimp only [dats]; exact Pipeline.Dat.Φ_castSucc (invariant m c) t

/-- The invariant at the end of a point. -/
theorem invariant_end (c : Dev nD) (t : Fin cfg0.N) :
    (dats m 0 c).Φ t.succ
      = iprop(owns (c : Thread nD τ) accM fullShare (acc m c t.val t.isLt) ∗ ∃ r, prngReg c r) := rfl

set_option maxHeartbeats 2000000 in
/-- The body keeps the invariant at every point: at the first it starts from a cleared accumulator, at the others it
    goes on from the one before, and at the last it leaves the totals in the result's buffer. -/
theorem body_obligation (c : Dev nD) :
    BodyObligationLoose (dats (F := F) m 0 c) (defs₀ (F := F)) Variants.none () Set.univ := fun t => by
  rw [bigSep_W0, bigSep_W0, body_row]
  have hx : win0_0.cut (grid0.coords t) (members m c t) = iblk m c 0 t := win0_0.cut_fill _ _ _
  have hy : win0_1.cut (grid0.coords t) (observed m c t) = iblk m c 1 t := win0_1.cut_fill _ _ _
  simp only
  rw [invariant_start, invariant_end,
    show (dats m 0 c).owesAt () t.succ = (dats m 0 c).owesAt () t.castSucc from rfl]
  by_cases hf : atFirst (grid0.coords t)
  · have hz : t.val = 0 := (atFirst_iff t).mp hf
    have hl : ¬atLast (grid0.coords t) := fun h => by have := (atLast_iff t).mp h; omega
    obtain ⟨hi, hn⟩ := result_idle t hl
    rw [hi, hn, invariant_first m c _ _ hz, anything_eq, acc_first m c t hz]
    simp only
    iintro ⟨⟨⟨%d4, H4⟩, Hg⟩, Ho, ⟨%d0, H0⟩, ⟨%d1, H1⟩, ⟨%d2, H2⟩⟩
    rw [members_before m c t d0, observed_before m c t d1]
    iapply (body_first (F := F) c (grid0.coords t) _ _ _ _ _ _ _ _ hf hl _ _ _ _ Set.univ _)
    isplitl [H0]; · iexact H0
    isplitl [H1]; · iexact H1
    isplitl [H2]; · iexact H2
    isplitl [H4]; · iexact H4
    rw [counts_fill]
    iintro ⟨H0, H1, H2, H4⟩
    isplitl [H4 Hg]
    · isplitl [H4]; · iexact H4
      iexact Hg
    isplitl [Ho]; · iexact Ho
    isplitl [H0]
    · iexists d0
      change _ ⊢ owns (c : Thread nD τ) (st0_0 t) fullShare (win0_0.fill (grid0.coords t) d0 (win0_0.cut (grid0.coords t) (members m c t)))
      rw [hx]; try iexact H0
    isplitl [H1]
    · iexists d1
      change _ ⊢ owns (c : Thread nD τ) (st0_1 t) fullShare (win0_1.fill (grid0.coords t) d1 (win0_1.cut (grid0.coords t) (observed m c t)))
      rw [hy]; try iexact H1
    iexists d2; iexact H2
  · have hz : t.val ≠ 0 := fun h => hf ((atFirst_iff t).mpr h)
    rw [invariant_later m c _ _ hz, acc_later m c t hz]
    by_cases hl : atLast (grid0.coords t)
    · rw [result_live t hl]
      simp only
      iintro ⟨⟨H4, Hg⟩, Ho, ⟨%d0, H0⟩, ⟨%d1, H1⟩, ⟨%d2, H2⟩⟩
      rw [members_before m c t d0, observed_before m c t d1, totals_after, acc_later m c t hz]
      iapply (body_last (F := F) c (grid0.coords t) _ _ _ _ _ _ _ _ hf hl _ _ _ _ Set.univ _)
      isplitl [H0]; · iexact H0
      isplitl [H1]; · iexact H1
      isplitl [H2]; · iexact H2
      isplitl [H4]; · iexact H4
      rw [counts_fill]
      iintro ⟨H0, H1, H2, H4⟩
      isplitl [H4 Hg]
      · isplitl [H4]; · iexact H4
        iexact Hg
      isplitl [Ho]; · iexact Ho
      isplitl [H0]
      · iexists d0
        change _ ⊢ owns (c : Thread nD τ) (st0_0 t) fullShare (win0_0.fill (grid0.coords t) d0 (win0_0.cut (grid0.coords t) (members m c t)))
        rw [hx]; try iexact H0
      isplitl [H1]
      · iexists d1
        change _ ⊢ owns (c : Thread nD τ) (st0_1 t) fullShare (win0_1.fill (grid0.coords t) d1 (win0_1.cut (grid0.coords t) (observed m c t)))
        rw [hy]; try iexact H1
      iexact H2
    · obtain ⟨hi, hn⟩ := result_idle t hl
      rw [hi, hn]
      simp only
      iintro ⟨⟨H4, Hg⟩, Ho, ⟨%d0, H0⟩, ⟨%d1, H1⟩, ⟨%d2, H2⟩⟩
      rw [members_before m c t d0, observed_before m c t d1]
      iapply (body_middle (F := F) c (grid0.coords t) _ _ _ _ _ _ _ _ hf hl _ _ _ _ Set.univ _)
      isplitl [H0]; · iexact H0
      isplitl [H1]; · iexact H1
      isplitl [H2]; · iexact H2
      isplitl [H4]; · iexact H4
      rw [counts_fill]
      iintro ⟨H0, H1, H2, H4⟩
      isplitl [H4 Hg]
      · isplitl [H4]; · iexact H4
        iexact Hg
      isplitl [Ho]; · iexact Ho
      isplitl [H0]
      · iexists d0
        change _ ⊢ owns (c : Thread nD τ) (st0_0 t) fullShare (win0_0.fill (grid0.coords t) d0 (win0_0.cut (grid0.coords t) (members m c t)))
        rw [hx]; try iexact H0
      isplitl [H1]
      · iexists d1
        change _ ⊢ owns (c : Thread nD τ) (st0_1 t) fullShare (win0_1.fill (grid0.coords t) d1 (win0_1.cut (grid0.coords t) (observed m c t)))
        rw [hy]; try iexact H1
      iexists d2; iexact H2

/-! ## The launch -/

/-- The launch hands over the scratch at anything: the invariant before the first point. -/
theorem invariant_in (c : Dev nD) : Pipeline.ΦA spec0 c ⊢ (dats m 0 c).Φ 0 := Entails.refl _

/-- After the last point the accumulator's contents are forgotten. -/
theorem invariant_out (c : Dev nD) : (dats m 0 c).Φ (Fin.last cfg0.N) ⊢ Pipeline.ΦA spec0 c := by
  have hN : cfg0.N = 23 := N_0
  rw [show (dats m 0 c).Φ (Fin.last cfg0.N) = invariant m c cfg0.N (Nat.le_refl _) from rfl,
    invariant_later m c _ _ (by omega), anything_eq]
  iintro ⟨H, Hg⟩
  isplitl [H]
  · iexists _; iexact H
  iexact Hg

set_option backward.isDefEq.respectTransparency.types false in
set_option maxHeartbeats 800000 in
/-- The run: every execution ends, with the pipeline's arrays at what the proof data say, the other arrays as the host
    line after the kernel leaves them, and every counter at zero. -/
theorem run : θ_run defs (onTc (τ := τ) (main (F := F))) (s₀ m ρ) (fun r =>
    (Pipeline.FramePost cfgs (dats m) 0 (Pipeline.afterTail₀ cfgs (dats m) 0 (V0 m) [hostOps1])) r
      ∧ r.2.sem = fun _ => 0) :=
  Pipeline.θ_run_frame_around_track (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := arrays_eq m) (hin := invariant_in m)
    (hout := invariant_out m)

end Cert.KernelIdeal.Rank

end
-- ==== Proof.Ideal.Frame.lean ====
/- The frame of the rank histogram kernel: its two arguments end as they began, and every counter ends at zero. -/
module

public import proofs.«01_k».proof.Proof.Ideal.Data

@[expose] public section

noncomputable section

namespace Cert.KernelIdeal.Rank

open Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The frame, at any float values: the arguments are unchanged and the counters are zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (arrays_eq m) ((θ_run defs _ _).mono (fun _ h => h.1) (run m ρ)))
    ((θ_run defs _ _).mono (fun _ h => h.2) (run m ρ))

end Cert.KernelIdeal.Rank

end
-- ==== Proof.Printed.lean ====
/- The kernel as printed and the kernel as idealized are one program: no operation was rewritten, so the two texts unfold
   to the same terms. What is proved of the idealized text at any float values holds of the printed one. -/
module

public import proofs.«01_k».proof.Proof.Ideal.Frame
public import proofs.«01_k».proof.Proof.Gen.Kernel

@[expose] public section

noncomputable section

namespace Cert.Kernel.Rank

open Idealize.ShloMosaic Idealize.ShloMosaic.TcCoe
open Idealize.SL.Sem

variable {F : FTy → Type} [FloatOps F]

/-- The two body tables agree: the one row of each is the same function body. -/
theorem bodies_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- With the pipeline's own rows added they still agree. -/
theorem defs_eq : Cert.Kernel.defs (F := F) = Cert.KernelIdeal.defs (F := F) := by
  unfold Cert.Kernel.defs Cert.KernelIdeal.defs
  exact congrArg (Pipeline.defs Cert.KernelIdeal.pcfgs) bodies_eq

/-- The frame of the printed kernel: its two arguments end as they began, and every counter ends at zero. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
        ∧ r.2.sem = fun _ => 0) := by
  rw [defs_eq]
  exact Cert.KernelIdeal.Rank.frame m ρ

end Cert.Kernel.Rank

end
-- ==== Proof.Sums.lean ====
/- A sum over the 721 rows of the arrays, taken block by block: 23 blocks of 32 rows, the rows past the end left out. -/
module

public import Mathlib.Algebra.BigOperators.Fin
public import Mathlib.Algebra.BigOperators.Group.Finset.Basic
public import Mathlib.Logic.Equiv.Fin.Basic
public import Mathlib.Tactic.Ring

@[expose] public section

namespace Cert.Rank

/-- Blocks of 32 rows, masked to the 721 there are, add up to the rows. -/
theorem sum_blocks {M : Type} [AddCommMonoid M] (f : Fin 721 → M) :
    ∑ t : Fin 23, ∑ r : Fin 32, (if h : 32 * t.val + r.val < 721 then f ⟨32 * t.val + r.val, h⟩ else 0)
      = ∑ h : Fin 721, f h := by
  set g : ℕ → M := fun n => if h : n < 721 then f ⟨n, h⟩ else 0 with hg
  have e1 : ∑ t : Fin 23, ∑ r : Fin 32, (if h : 32 * t.val + r.val < 721 then f ⟨32 * t.val + r.val, h⟩ else 0)
      = ∑ n : Fin (23 * 32), g n.val := by
    rw [← Fintype.sum_prod_type', ← finProdFinEquiv.sum_comp]
    refine Finset.sum_congr rfl fun x _ => ?_
    simp only [hg, finProdFinEquiv_apply_val, Nat.add_comm]
  have e2 : ∑ h : Fin 721, f h = ∑ n : Fin 721, g n.val :=
    Finset.sum_congr rfl fun x _ => by simp only [hg, x.isLt, dif_pos]
  rw [e1, e2, Fin.sum_univ_eq_sum_range, Fin.sum_univ_eq_sum_range]
  refine (Finset.sum_subset (Finset.range_subset_range.mpr (by omega)) fun n _ hn => ?_).symm
  have : ¬n < 721 := fun h => hn (Finset.mem_range.mpr h)
  simp only [hg, dif_neg this]

end Cert.Rank
-- ==== Proof.Ideal.Value.lean ====
/- What the rank histogram kernel leaves in its result: bin `k` holds how many places of the grid have rank `k`. The
   accumulator is read as a sum over the points so far, the result as the accumulator's totals after the last point. -/
module

public import proofs.«01_k».proof.Proof.Ideal.Frame
public import proofs.«01_k».proof.Proof.Sums
public import Idealize.ShloMosaic.Lib.Pipeline.ValueKit

@[expose] public section

set_option maxRecDepth 16384

noncomputable section

namespace Cert.KernelIdeal.Rank

open Cert.KernelIdeal.Gen Cert.Rank
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg)

/-- The members as launched. -/
abbrev allMembers (c : Dev nD) : S50x721x1440.Idx → F .f32 := m ((c : Thread nD τ).loc main_arg0)

/-- The observations as launched. -/
abbrev allObserved (c : Dev nD) : S721x1440.Idx → F .f32 := m ((c : Thread nD τ).loc main_arg1)

/-- Point `t` reads block `t` of the members' rows. -/
theorem members_offset : ∀ t : Fin cfg0.N, win0_0.index t 0 = 0 ∧ win0_0.index t 1 = t.val ∧ win0_0.index t 2 = 0 := by
  decide +kernel

/-- Point `t` reads block `t` of the observations' rows. -/
theorem observed_offset : ∀ t : Fin cfg0.N, win0_1.index t 0 = t.val ∧ win0_1.index t 1 = 0 := by
  decide +kernel

/-- The members' block at point `t` on a row inside the array: row `32 t + r` of the array. -/
theorem members_at (c : Dev nD) (t : Fin cfg0.N) (x : Fin 50) (r : Fin 32) (l : Fin 1440) (h : 32 * t.val + r.val < 721) :
    members m c t (ix3 x r l) = allMembers m c (ix3 x ⟨32 * t.val + r.val, h⟩ l) := by
  obtain ⟨i0, i1, i2⟩ := members_offset t
  unfold members Pipeline.Window.fill
  rw [dif_pos (members_moved t x r l h)]
  unfold iblk
  rw [View.read_apply]
  refine congrArg (allMembers m c) ?_
  funext a
  apply Fin.ext
  match a with
  | ⟨0, _⟩ => change win0_0.index t 0 * 50 + 1 * x.val = x.val; rw [i0]; omega
  | ⟨1, _⟩ => change win0_0.index t 1 * 32 + 1 * r.val = 32 * t.val + r.val; rw [i1]; omega
  | ⟨2, _⟩ => change win0_0.index t 2 * 1440 + 1 * l.val = l.val; rw [i2]; omega

/-- The observations' block at point `t` on a row inside the array: row `32 t + r` of the array. -/
theorem observed_at (c : Dev nD) (t : Fin cfg0.N) (r : Fin 32) (l : Fin 1440) (h : 32 * t.val + r.val < 721) :
    observed m c t (ix2 r l) = allObserved m c (ix2 ⟨32 * t.val + r.val, h⟩ l) := by
  obtain ⟨i0, i1⟩ := observed_offset t
  unfold observed Pipeline.Window.fill
  rw [dif_pos (observed_moved t r l h)]
  unfold iblk
  rw [View.read_apply]
  refine congrArg (allObserved m c) ?_
  funext a
  apply Fin.ext
  match a with
  | ⟨0, _⟩ => change win0_1.index t 0 * 32 + 1 * r.val = 32 * t.val + r.val; rw [i0]; omega
  | ⟨1, _⟩ => change win0_1.index t 1 * 1440 + 1 * l.val = l.val; rw [i1]; omega

/-- One where the place in row `h`, column `l` has rank `k`. -/
def place (c : Dev nD) (k : ℕ) (l : Fin 1440) (h : Fin 721) : BitVec 32 :=
  hit (rank (fun x => allMembers m c (ix3 x h l)) (allObserved m c (ix2 h l))) k

/-- What a point adds to the accumulator at bin `k`, row `r` of the block, column `l`. -/
theorem counts_at (c : Dev nD) (t : Fin cfg0.N) (A : Vec F S51x32x1440 .i32) (k : Fin 51) (r : Fin 32) (l : Fin 1440) :
    k0_pay2 (grid0.coords t) (observed m c t) (members m c t) A (ix3 k r l)
      = A (ix3 k r l) + (if h : 32 * t.val + r.val < 721 then place m c k.val l ⟨32 * t.val + r.val, h⟩ else 0) := by
  rw [pay2_at, coord_val]
  by_cases h : 32 * t.val + r.val < 721
  · rw [if_pos h, dif_pos h, observed_at m c t r l h]
    simp only [members_at m c t _ r l h, place]
  · rw [if_neg h, dif_neg h]

/-- The accumulator after point `n`: the sum over the points so far. -/
theorem acc_at (c : Dev nD) (k : Fin 51) (r : Fin 32) (l : Fin 1440) : ∀ (n : ℕ) (hn : n < cfg0.N),
    acc m c n hn (ix3 k r l)
      = ∑ t : Fin (n + 1), (if h : 32 * t.val + r.val < 721 then place m c k.val l ⟨32 * t.val + r.val, h⟩ else 0)
  | 0, hn => by
    rw [show acc m c 0 hn = k0_pay2 (grid0.coords ⟨0, hn⟩) (observed m c ⟨0, hn⟩) (members m c ⟨0, hn⟩) k0_pay1 from rfl,
      counts_at, pay1_at, Fin.sum_univ_one]
    exact BitVec.zero_add _
  | n + 1, hn => by
    rw [show acc m c (n + 1) hn = k0_pay2 (grid0.coords ⟨n + 1, hn⟩) (observed m c ⟨n + 1, hn⟩) (members m c ⟨n + 1, hn⟩)
        (acc m c n (Nat.lt_of_succ_lt hn)) from rfl,
      counts_at, acc_at c k r l n, Fin.sum_univ_castSucc (n := n + 1)]
    rfl

/-- The last point. -/
abbrev lastPoint : Fin cfg0.N := ⟨22, by decide +kernel⟩

/-- The totals after the last point are the histogram. -/
theorem totals_at (c : Dev nD) (k : Fin 51) (l : Fin 1) :
    k0_pay3 (F := F) (acc m c 22 lastPoint.isLt) (ix2 k l) = histogram (allMembers m c) (allObserved m c) k.val := by
  rw [pay3_at]
  unfold histogram
  rw [Finset.sum_comm (s := (Finset.univ : Finset (Fin 721)))]
  refine Finset.sum_congr rfl fun x _ => ?_
  rw [show (∑ h : Fin 721, hit (rank (fun y => allMembers m c (ix3 y h x)) (allObserved m c (ix2 h x))) k.val)
    = ∑ h : Fin 721, place m c k.val x h from rfl, ← sum_blocks, Finset.sum_comm]
  exact Finset.sum_congr rfl fun r _ => acc_at m c k r x 22 lastPoint.isLt

/-- The result's array after the run: the totals after the last point. -/
theorem result_array (c : Dev nD) :
    (dats (F := F) m 0 c).arrAt 2 cfg0.N = k0_pay3 (F := F) (acc m c 22 lastPoint.isLt) := by
  have hw : (cfg0.win 2).WholeAt lastPoint := by decide +kernel
  refine Pipeline.Dat.arrAt_eq_of_after_last (dats (F := F) m 0 c) 2 lastPoint hw _ (fun j => ?_) (Memref.isWhole_whole _)
  rw [totals_after]
  change _root_.cast _ (k0_pay3 (F := F) (acc m c 22 lastPoint.isLt) _) = _
  generalize k0_pay3 (F := F) (acc m c 22 lastPoint.isLt) = G
  rfl

/-- The returned array: bin by bin the histogram. -/
def result (c : Dev nD) : Buf (Elt F) ((c : Thread nD τ).loc main_v1) :=
  fun k => histogram (allMembers m c) (allObserved m c) (k 0).val

/-- The host line after the kernel drops the unit axis: what it leaves is the histogram. -/
theorem result_tail (c : Dev nD) :
    Pipeline.afterTail₀ cfgs (dats (F := F) m) 0 (V0 m) [hostOps1] c main_v1 = result m c := by
  unfold Pipeline.afterTail₀
  rw [show ([hostOps1 (F := F)] : List _).flatten = hostOps1 from rfl]
  unfold hostOps1
  simp only [StableHlo.after_cons, StableHlo.after_nil]
  rw [StableHlo.reshape_result]
  have e := Pipeline.withArrays_arr spec0 launch0.win.arr_inj c (V0 m c) (fun w => (dats (F := F) m 0 c).arrAt w cfg0.N) 2
  have e := e.trans (result_array m c)
  funext k
  change shapeCast S51 (Pipeline.withArrays spec0 c (V0 m c) (fun w => (dats (F := F) m 0 c).arrAt w cfg0.N)
    (Proc.devRef .tc main_v0)) shapeCasts_S51x1_S51 k = _
  rw [show Pipeline.withArrays spec0 c (V0 m c) (fun w => (dats (F := F) m 0 c).arrAt w cfg0.N)
    (Proc.devRef .tc main_v0) = k0_pay3 (F := F) (acc m c 22 lastPoint.isLt) from e]
  have hk : shapeCast S51 (k0_pay3 (F := F) (acc m c 22 lastPoint.isLt)) shapeCasts_S51x1_S51 k
      = k0_pay3 (F := F) (acc m c 22 lastPoint.isLt) (ix2 (k 0) 0) := by
    generalize k0_pay3 (F := F) (acc m c 22 lastPoint.isLt) = G
    pointwise
  exact hk.trans (totals_at m c (k 0) 0)

/-- The run of the kernel: every execution ends with the histogram in the result and the arguments unchanged. -/
theorem run_value : θ_run defs (onTc (τ := τ) (main (F := F))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1.1 c).2 main_v1 (Pipeline.mem_restRefs_of main_v1 rfl (by decide))).trans (result_tail m c),
      h.2.1 c⟩)
    (θ_run_and (run m ρ) (frame m ρ))

end Cert.KernelIdeal.Rank

end
-- ==== Proof.Reference.Scatter.lean ====
/- The reference's scatter of ones, and its sum over the members, in closed form: bin `k` of the scatter counts the
   updates whose index is `k`, and the sum over the first axis runs down a column of the stack. -/
module

public import proofs.«01_k».proof.Proof.Gen.ReferenceIdeal
public import proofs.«01_k».proof.Proof.Histogram
public import Idealize.ShloMosaic.Lib.Pointwise
public import Idealize.ShloMosaic.PureOps.Reduce

@[expose] public section

set_option maxRecDepth 16384

noncomputable section

namespace Cert.ReferenceIdeal.Rank

open Cert.ReferenceIdeal Cert.ReferenceIdeal.Gen Cert.Rank
open Idealize.ShloMosaic

/-- A left fold whose every step adds, at one entry, a weight of the step, ends with the sum of the weights there. -/
theorem foldl_weights {ι α : Type} (step : (α → BitVec 32) → ι → α → BitVec 32) (k : α) (wt : ι → BitVec 32)
    (hs : ∀ r n, step r n k = r k + wt n) : ∀ (L : List ι) (r : α → BitVec 32), L.foldl step r k = r k + (L.map wt).sum
  | [], r => (BitVec.add_zero _).symm
  | n :: L, r => by
    rw [List.foldl_cons, foldl_weights step k wt hs L, hs, List.map_cons, List.sum_cons, BitVec.add_assoc]

/-- Over the positions of an array, from a zero entry: the fold ends with the sum of the weights over the indices. -/
theorem foldl_positions {α : Type} (u : Shape) (step : (α → BitVec 32) → Fin u.numel → α → BitVec 32) (k : α)
    (wt : u.Idx → BitVec 32) (r : α → BitVec 32) (hr : r k = 0#32)
    (hs : ∀ r n, step r n k = r k + wt (u.rowMajor.symm n)) : (List.finRange u.numel).foldl step r k = ∑ i, wt i := by
  rw [foldl_weights step k (fun n => wt (u.rowMajor.symm n)) hs, hr, BitVec.zero_add, ← Fin.sum_univ_def]
  exact Equiv.sum_comp u.rowMajor.symm wt

/-- The scatter's dimension record: one index per update, into the one axis of the bins. -/
abbrev dims := scatter_S51_S1038240x1_S1038240_n_0_0_1

/-- The start of update `j` is its index, read as a signed number. -/
theorem start_eq (idx : IVec S1038240x1 32) (j : Fin 1038240) :
    dims.start (ix1 j) idx 0 = (idx (ix2 j (0 : Fin 1))).toInt := by
  unfold ScatterDims.start
  have named : (0 : Fin S51.rank) ∈ dims.scatterDimsToOperandDims := List.mem_singleton.2 rfl
  rw [dif_pos named]
  refine congrArg (fun q => (idx q).toInt) (funext fun b => ?_)
  match b with
  | ⟨0, _⟩ =>
    refine Fin.ext ?_
    unfold ScatterDims.siIdx
    refine (congrArg Fin.val (dif_neg (show ¬ (0 : Nat) = 1 from Nat.zero_ne_one))).trans ?_
    unfold ScatterDims.siCoord
    exact congrArg (fun X : Fin 1 => (ix1 j X).val) (Subsingleton.elim _ (0 : Fin 1))
  | ⟨1, _⟩ => exact Subsingleton.elim (α := Fin 1) _ _

/-- A scatter of single entries has no window. -/
theorem window_eq (j : Fin 1038240) : dims.window (ix1 j) 0 = 0 := by
  rfl

/-- Update `j` lands on bin `k` exactly when its index, read as a signed number, is `k`. -/
theorem lands_iff (idx : IVec S1038240x1 32) (j : Fin 1038240) (k : Fin 51) :
    dims.resultIdx? (ix1 j) idx = some (ix1 k) ↔ (idx (ix2 j (0 : Fin 1))).toInt = (k.val : Int) := by
  have place : dims.start (ix1 j) idx 0 + (dims.window (ix1 j) 0 : Int) = (idx (ix2 j (0 : Fin 1))).toInt := by
    rw [start_eq, window_eq]; exact Int.add_zero _
  unfold ScatterDims.resultIdx?
  constructor
  · intro e
    split at e
    · next inside =>
      have low := (inside 0).1
      have same : (dims.start (ix1 j) idx 0 + (dims.window (ix1 j) 0 : Int)).toNat = k.val :=
        congrArg Fin.val (congrFun (Option.some.inj e) 0)
      rw [place] at low same
      omega
    · cases e
  · intro e
    have inside : ∀ a, 0 ≤ dims.start (ix1 j) idx a + (dims.window (ix1 j) a : Int)
        ∧ dims.start (ix1 j) idx a + (dims.window (ix1 j) a : Int) < (S51.size a : Int) := fun a => by
      obtain rfl : a = 0 := Subsingleton.elim (α := Fin 1) _ _
      rw [place, e]
      have := k.isLt
      exact ⟨by omega, by show (k.val : Int) < 51; omega⟩
    rw [dif_pos inside]
    refine congrArg some (funext fun a => ?_)
    obtain rfl : a = 0 := Subsingleton.elim (α := Fin 1) _ _
    refine Fin.ext ?_
    show (dims.start (ix1 j) idx 0 + (dims.window (ix1 j) 0 : Int)).toNat = k.val
    rw [place, e]
    rfl

/-- Scattering ones into zeros: bin `k` counts the updates whose index, read as a signed number, is `k`. -/
theorem scatter_ones (x : IVec S51 32) (idx : IVec S1038240x1 32) (upd : IVec S1038240 32) (hx : ∀ i, x i = 0#32)
    (hu : ∀ i, upd i = 1#32) (k : Fin 51) :
    Host.scatter dims IntOp.addi x idx upd (ix1 k)
      = ∑ i : S1038240.Idx, if (idx (ix2 (i 0) (0 : Fin 1))).toInt = (k.val : Int) then 1#32 else 0#32 := by
  unfold Host.scatter
  refine foldl_positions S1038240 _ (ix1 k) (fun i => if (idx (ix2 (i 0) (0 : Fin 1))).toInt = (k.val : Int) then 1#32 else 0#32)
    x (hx _) fun r n => ?_
  generalize S1038240.rowMajor.symm n = i
  have hi : (ix1 (i 0 : Fin 1038240) : S1038240.Idx) = i := funext fun a => by
    obtain rfl : a = 0 := Subsingleton.elim (α := Fin 1) _ _
    rfl
  have lands : dims.resultIdx? (ix1 (i 0 : Fin 1038240) : S1038240.Idx) idx = _ ↔ _ := lands_iff idx (i 0) k
  rw [hi] at lands
  generalize dims.resultIdx? i idx = o at lands ⊢
  cases o with
  | none =>
    have off : ¬ (idx (ix2 (i 0) (0 : Fin 1))).toInt = (k.val : Int) := fun e => nomatch lands.2 e
    simp only [if_neg off]
    exact (BitVec.add_zero _).symm
  | some q =>
    by_cases e : (idx (ix2 (i 0) (0 : Fin 1))).toInt = (k.val : Int)
    · obtain rfl : q = ix1 k := Option.some.inj (lands.2 e)
      simp only [if_true, if_pos e, hu]
      rfl
    · have hq : ¬ ix1 k = q := fun h => e (lands.1 (congrArg some h.symm))
      simp only [if_neg hq, if_neg e]
      exact (BitVec.add_zero _).symm

/-- The sum over the members at a grid point runs down that point's column. -/
theorem reduce_members (x : IVec S50x721x1440 32) (h : Fin 721) (w : Fin 1440) :
    Host.reduce IntOp.addi x (constantI S_ 32 0#32) reducesTo_S50x721x1440_S721x1440_d0 h_S_ (ix2 h w)
      = (Finset.univ : Finset (Fin 50)).fold IntOp.addi (0#32) fun y => x (ix3 y h w) := by
  rw [Host.reduce_eq_fold]
  have column : (Finset.univ.filter fun i : S50x721x1440.Idx => reducesTo_S50x721x1440_S721x1440_d0.drop i = ix2 h w)
      = Finset.univ.image fun y : Fin 50 => (ix3 y h w : S50x721x1440.Idx) := by
    ext i
    simp only [Finset.mem_filter, Finset.mem_univ, true_and, Finset.mem_image]
    constructor
    · intro e
      refine ⟨i 0, funext fun a => Fin.ext ?_⟩
      have h0 := (reducesTo_S50x721x1440_S721x1440_d0.drop_apply_val i 0).symm.trans (congrArg (fun j : S721x1440.Idx => (j 0).val) e)
      have h1 := (reducesTo_S50x721x1440_S721x1440_d0.drop_apply_val i 1).symm.trans (congrArg (fun j : S721x1440.Idx => (j 1).val) e)
      match a with
      | ⟨0, _⟩ => rfl
      | ⟨1, _⟩ => exact h0.symm
      | ⟨2, _⟩ => exact h1.symm
    · rintro ⟨y, rfl⟩
      refine funext fun a => Fin.ext ?_
      rw [reducesTo_S50x721x1440_S721x1440_d0.drop_apply_val]
      match a with
      | ⟨0, _⟩ => rfl
      | ⟨1, _⟩ => rfl
  rw [column, Finset.fold_image fun y _ z _ e => congrFun e 0]
  rfl

end Cert.ReferenceIdeal.Rank

end
-- ==== Proof.Reference.Value.lean ====
/- What the reference returns: bin `k` counts the grid points whose rank is `k`, the specification of the kernel's own
   result. The reference's clip at zero and its wrap of a negative index do nothing, for a rank is between 0 and 50. -/
module

public import proofs.«01_k».proof.Proof.Gen.ReferenceIdeal.Run
public import proofs.«01_k».proof.Proof.Reference.Scatter
public import Idealize.ShloMosaic.Lib.Claim

@[expose] public section

set_option maxRecDepth 16384

noncomputable section

namespace Cert.ReferenceIdeal.Rank

open Cert.ReferenceIdeal Cert.ReferenceIdeal.Gen Cert.Rank
open Idealize.ShloMosaic Idealize.ShloMosaic.StableHlo

variable {F : FTy → Type} [FloatOps F]

/-- The reference's array of ranks: one plus the number of members below the observation, less one. -/
def ranks (P : S50x721x1440.Idx → F .f32) (T : S721x1440.Idx → F .f32) : IVec S721x1440 32 :=
  subi (addi (broadcastInDim S721x1440 ![] bcast_S_S721x1440 (constantI S_ 32 1#32))
    (Host.reduce IntOp.addi (extui 32 (cmpf .olt P
      (broadcastInDim S50x721x1440 ![0, 1, 2] bcast_S1x721x1440_S50x721x1440_0_1_2
        (broadcastInDim S1x721x1440 ![1, 2] bcast_S721x1440_S1x721x1440_1_2 T))) natLt_1_32)
      (constantI S_ 32 0#32) reducesTo_S50x721x1440_S721x1440_d0 h_S_))
    (broadcastInDim S721x1440 ![] bcast_S_S721x1440 (constantI S_ 32 1#32))

/-- The reference's clip at zero of a line of indices. -/
def clipped (V : IVec S1038240 32) : IVec S1038240 32 :=
  maxsi (broadcastInDim S1038240 ![] bcast_S_S1038240 (id (constantI S_ 32 0#32))) V

/-- The reference's wrap of negative indices. -/
def wrapped (X : IVec S1038240 32) : IVec S1038240 32 :=
  select (cmpi .slt X (broadcastInDim S1038240 ![] bcast_S_S1038240 (constantI S_ 32 0#32)))
    (addi X (broadcastInDim S1038240 ![] bcast_S_S1038240 (constantI S_ 32 51#32))) X

/-- The reference's scatter of ones at a line of indices. -/
def bins (Y : IVec S1038240 32) : IVec S51 32 :=
  Host.scatter scatter_S51_S1038240x1_S1038240_n_0_0_1 IntOp.addi (broadcastInDim S51 ![] bcast_S_S51 (constantI S_ 32 0#32))
    (broadcastInDim S1038240x1 ![0] bcast_S1038240_S1038240x1_0 Y)
    (broadcastInDim S1038240 ![] bcast_S_S1038240 (constantI S_ 32 1#32))

/-- Each entry of the array of ranks is the rank of its observation among its members. -/
theorem ranks_at (P : S50x721x1440.Idx → F .f32) (T : S721x1440.Idx → F .f32) (h : Fin 721) (w : Fin 1440) :
    ranks P T (ix2 h w) = rank (fun x => P (ix3 x h w)) (T (ix2 h w)) := by
  have back : ∀ b : BitVec 32, (1#32 + b) - 1#32 = b := fun b => by
    rw [BitVec.add_comm, BitVec.add_sub_cancel]
  unfold ranks
  show (1#32 + Host.reduce IntOp.addi _ _ _ _ (ix2 h w)) - 1#32 = _
  rw [back, reduce_members]
  unfold rank
  refine congrArg (fun f => Finset.fold IntOp.addi (0#32) f Finset.univ) (funext fun x => ?_)
  pointwise

/-- A word of at most 50 keeps its value through the clip and the wrap. -/
theorem settled (V : IVec S1038240 32) (i : S1038240.Idx) (hV : (V i).toNat ≤ 50) : wrapped (clipped V) i = V i := by
  have value : (V i).toInt = ((V i).toNat : Int) := BitVec.toInt_eq_toNat_of_lt (by omega)
  have below : (V i).slt 0#32 = false := by
    rw [BitVec.slt, value]
    exact decide_eq_false (by simp)
  have clip : clipped V i = V i := by
    show (if (V i).slt 0#32 then 0#32 else V i) = V i
    rw [below]
    rfl
  show (if BitVec.ofBool ((clipped V i).slt 0#32) = 1#1 then clipped V i + 51#32 else clipped V i) = V i
  rw [clip, below]
  rfl

/-- Bin `k` counts the places of the array of ranks that hold `k`. -/
theorem bins_at (V : IVec S721x1440 32) (hV : ∀ i, (V i).toNat ≤ 50) (k : Fin 51) :
    bins (wrapped (clipped (shapeCast S1038240 V shapeCasts_S721x1440_S1038240))) (ix1 k)
      = ∑ h : Fin 721, ∑ w : Fin 1440, hit (V (ix2 h w)) k.val := by
  have small : ∀ b : BitVec 32, b.toNat ≤ 50 → (b.toInt = (k.val : Int) ↔ b = BitVec.ofNat 32 k.val) := fun b hb => by
    have hk := k.isLt
    rw [BitVec.toInt_eq_toNat_of_lt (by omega), ← BitVec.toNat_inj, BitVec.toNat_ofNat, Nat.mod_eq_of_lt (by omega)]
    omega
  have place : ∀ i : S1038240.Idx,
      (if (broadcastInDim S1038240x1 ![0] bcast_S1038240_S1038240x1_0
          (wrapped (clipped (shapeCast S1038240 V shapeCasts_S721x1440_S1038240))) (ix2 (i 0) (0 : Fin 1))).toInt = (k.val : Int)
        then 1#32 else 0#32)
      = hit (V (Shape.reshapeEquiv shapeCasts_S721x1440_S1038240 i)) k.val := fun i => by
    have whole : broadcastInDim S1038240x1 ![0] bcast_S1038240_S1038240x1_0
          (wrapped (clipped (shapeCast S1038240 V shapeCasts_S721x1440_S1038240))) (ix2 (i 0) (0 : Fin 1))
        = V (Shape.reshapeEquiv shapeCasts_S721x1440_S1038240 i) := by
      have hi : (ix1 (i 0 : Fin 1038240) : S1038240.Idx) = i := funext fun a => by
        obtain rfl : a = 0 := Subsingleton.elim (α := Fin 1) _ _
        rfl
      refine Eq.trans ?_ (settled (shapeCast S1038240 V shapeCasts_S721x1440_S1038240) i (hV _))
      generalize wrapped (clipped (shapeCast S1038240 V shapeCasts_S721x1440_S1038240)) = Y
      conv_rhs => rw [← hi]
      pointwise
    rw [whole]
    unfold hit
    exact if_congr (small _ (hV _)) rfl rfl
  refine (scatter_ones _ _ _ (fun _ => rfl) (fun _ => rfl) k).trans ?_
  refine (Finset.sum_congr rfl fun i _ => place i).trans ?_
  refine (Equiv.sum_comp (Shape.reshapeEquiv shapeCasts_S721x1440_S1038240) fun j => hit (V j) k.val).trans ?_
  exact sum_idx2 _

/-- The reference's histogram is the specification's. -/
theorem bins_eq (P : S50x721x1440.Idx → F .f32) (T : S721x1440.Idx → F .f32) (k : S51.Idx) :
    bins (wrapped (clipped (shapeCast S1038240 (ranks P T) shapeCasts_S721x1440_S1038240))) k = histogram P T (k 0).val := by
  have at_most : ∀ i, (ranks P T i).toNat ≤ 50 := fun i => by
    have e := (congrArg (ranks P T) (eq_ix2 i)).trans (ranks_at P T (i 0) (i 1))
    rw [e]
    exact rank_le _ _
  have hk : (ix1 (k 0 : Fin 51) : S51.Idx) = k := funext fun a => by
    obtain rfl : a = 0 := Subsingleton.elim (α := Fin 1) _ _
    rfl
  refine (congrArg _ hk.symm).trans ((bins_at _ at_most (k 0)).trans ?_)
  unfold histogram
  exact Finset.sum_congr rfl fun h _ => Finset.sum_congr rfl fun w _ => by rw [ranks_at]

/-- From zero counters the reference leaves its arguments unchanged and ends with every counter at zero. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  θ_run_mono (Value.run m ρ) fun r h => ⟨fun c => (h c).2, sem_eq_zero_of_no_sems (by decide) r.2⟩

/-- The reference's result on each device is the histogram of its arguments, which it leaves unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
        = (fun k => histogram (m ((c.tc : Thread nD τ).loc main_arg0)) (m ((c.tc : Thread nD τ).loc main_arg1)) (k 0).val)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (Value.run m ρ) fun r h c => ⟨(h c).1.trans (funext fun k => bins_eq _ _ k), (h c).2⟩

end Cert.ReferenceIdeal.Rank

end
-- ==== Proof.lean ====
/- The five claims about the rank histogram, assembled: the printed kernel, its idealization and the reference each run
   and leave their arguments and counters as they were, the idealization keeps the kernel's text, and over exact numbers
   the kernel and the reference return the same histogram. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Printed
public import proofs.«01_k».proof.Proof.Ideal.Value
public import proofs.«01_k».proof.Proof.Reference.Value
public import Idealize.ShloMosaic.Adequacy
public import Idealize.ShloMosaic.Init

@[expose] public section

noncomputable section

namespace Cert.Proof

open Idealize.ShloMosaic Idealize.SL.Sem

/-- The printed kernel runs, leaves its arguments unchanged and ends with every counter at zero. -/
theorem kernel_quiescent : Cert.quiescent_Kernel (hKernel := Cert.Kernel.Gen.facts) :=
  fun m g _ => Cert.Kernel.Rank.frame (F := Bits) m g

/-- The idealized kernel runs, leaves its arguments unchanged and ends with every counter at zero. -/
theorem ideal_quiescent : Cert.quiescent_KernelIdeal (hKernelIdeal := Cert.KernelIdeal.Gen.facts) :=
  fun m g _ => Cert.KernelIdeal.Rank.frame (F := Ideal) m g

/-- The reference runs, leaves its arguments unchanged and ends with every counter at zero. -/
theorem reference_quiescent : Cert.quiescent_ReferenceIdeal (hReferenceIdeal := Cert.ReferenceIdeal.Gen.facts) :=
  fun m g _ => Cert.ReferenceIdeal.Rank.frame (F := Ideal) m g

/-- From equal arguments the idealized kernel and the reference return the same histogram. -/
theorem same_histogram : Cert.algebraic_KernelIdeal_ReferenceIdeal (hKernelIdeal := Cert.KernelIdeal.Gen.facts)
    (hReferenceIdeal := Cert.ReferenceIdeal.Gen.facts) := by
  intro m g m' g' _ agree
  refine ⟨Cert.KernelIdeal.Rank.result m, Cert.KernelIdeal.Rank.run_value (F := Ideal) m g,
    θ_run_mono (Cert.ReferenceIdeal.Rank.run_value (F := Ideal) m' g') fun r h c => ⟨(h c).1.trans ?_, (h c).2⟩⟩
  obtain ⟨a0, a1⟩ := agree c
  rw [a0, a1]
  rfl

/-- Everything the certificate claims. -/
theorem claim : Cert.Claim :=
  ⟨Cert.Kernel.Gen.facts, Cert.KernelIdeal.Gen.facts, Cert.ReferenceIdeal.Gen.facts, kernel_quiescent, ideal_quiescent,
    reference_quiescent, trivial, same_histogram⟩

end Cert.Proof

end
